-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_sqrt_dk" .f32 0x3E3504F3#32 (((Real.sqrt 32)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S160000x8 : Shape := ⟨2, ![160000, 8]⟩
abbrev S256x256 : Shape := ⟨2, ![256, 256]⟩
abbrev S256 : Shape := ⟨1, ![256]⟩
abbrev S256x768 : Shape := ⟨2, ![256, 768]⟩
abbrev S768 : Shape := ⟨1, ![768]⟩
abbrev S1x768 : Shape := ⟨2, ![1, 768]⟩
abbrev S10000x768 : Shape := ⟨2, ![10000, 768]⟩
abbrev S1000x256 : Shape := ⟨2, ![1000, 256]⟩
abbrev S1000x768 : Shape := ⟨2, ![1000, 768]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S160000x8x32 : Shape := ⟨3, ![160000, 8, 32]⟩
abbrev S10000x8 : Shape := ⟨2, ![10000, 8]⟩
abbrev S160000x8x1 : Shape := ⟨3, ![160000, 8, 1]⟩
abbrev S10000x8x32 : Shape := ⟨3, ![10000, 8, 32]⟩
abbrev S1x256 : Shape := ⟨2, ![1, 256]⟩

abbrev nBuf : Space → Nat
  | .hbm => 85
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x8, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x768, .f32⟩
  | .hbm, ⟨15, _⟩ => ⟨S768, .f32⟩
  | .hbm, ⟨16, _⟩ => ⟨S1x768, .f32⟩
  | .hbm, ⟨17, _⟩ => ⟨S10000x768, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S1x160000, .i32⟩
  | .hbm, ⟨22, _⟩ => ⟨S160000, .i32⟩
  | .hbm, ⟨23, _⟩ => ⟨S1x160000, .i32⟩
  | .hbm, ⟨24, _⟩ => ⟨S160000, .i32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S160000x256, .f32⟩
  | .hbm, ⟨34, _⟩ => ⟨S160000x8x32, .f32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S160000x256, .f32⟩
  | .hbm, ⟨44, _⟩ => ⟨S160000x8x32, .f32⟩
  | .hbm, ⟨45, _⟩ => ⟨S160000x8x32, .f32⟩
  | .hbm, ⟨46, _⟩ => ⟨S_, .f32⟩
  | .hbm, ⟨47, _⟩ => ⟨S160000x8, .f32⟩
  | .hbm, ⟨48, _⟩ => ⟨S160000x8, .f32⟩
  | .hbm, ⟨49, _⟩ => ⟨S160000x8, .f32⟩
  | .hbm, ⟨50, _⟩ => ⟨S_, .f32⟩
  | .hbm, ⟨51, _⟩ => ⟨S10000x8, .f32⟩
  | .hbm, ⟨52, _⟩ => ⟨S160000x1, .i32⟩
  | .hbm, ⟨53, _⟩ => ⟨S10000x8, .f32⟩
  | .hbm, ⟨54, _⟩ => ⟨S_, .i32⟩
  | .hbm, ⟨55, _⟩ => ⟨S160000, .i32⟩
  | .hbm, ⟨56, _⟩ => ⟨S160000, .i1⟩
  | .hbm, ⟨57, _⟩ => ⟨S_, .i32⟩
  | .hbm, ⟨58, _⟩ => ⟨S160000, .i32⟩
  | .hbm, ⟨59, _⟩ => ⟨S160000, .i32⟩
  | .hbm, ⟨60, _⟩ => ⟨S160000, .i32⟩
  | .hbm, ⟨61, _⟩ => ⟨S160000x1, .i32⟩
  | .hbm, ⟨62, _⟩ => ⟨S160000x256, .f32⟩
  | .hbm, ⟨63, _⟩ => ⟨S160000x8x32, .f32⟩
  | .hbm, ⟨64, _⟩ => ⟨S160000x8x1, .f32⟩
  | .hbm, ⟨65, _⟩ => ⟨S160000x8x32, .f32⟩
  | .hbm, ⟨66, _⟩ => ⟨S160000x8x32, .f32⟩
  | .hbm, ⟨67, _⟩ => ⟨S160000x256, .f32⟩
  | .hbm, ⟨68, _⟩ => ⟨S_, .f32⟩
  | .hbm, ⟨69, _⟩ => ⟨S10000x256, .f32⟩
  | .hbm, ⟨70, _⟩ => ⟨S160000x1, .i32⟩
  | .hbm, ⟨71, _⟩ => ⟨S10000x256, .f32⟩
  | .hbm, ⟨72, _⟩ => ⟨S_, .f32⟩
  | .hbm, ⟨73, _⟩ => ⟨S10000x8, .f32⟩
  | .hbm, ⟨74, _⟩ => ⟨S10000x8, .i1⟩
  | .hbm, ⟨75, _⟩ => ⟨S_, .f32⟩
  | .hbm, ⟨76, _⟩ => ⟨S_, .f32⟩
  | .hbm, ⟨77, _⟩ => ⟨S10000x8, .f32⟩
  | .hbm, ⟨78, _⟩ => ⟨S10000x8, .f32⟩
  | .hbm, ⟨79, _⟩ => ⟨S10000x8x32, .f32⟩
  | .hbm, ⟨80, _⟩ => ⟨S10000x256, .f32⟩
  | .hbm, ⟨81, _⟩ => ⟨S10000x256, .f32⟩
  | .hbm, ⟨82, _⟩ => ⟨S256x256, .f32⟩
  | .hbm, ⟨83, _⟩ => ⟨S1x256, .f32⟩
  | .hbm, ⟨84, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x768, .f32⟩
  | .local _ .vmem, ⟨3, _⟩ => ⟨S1x768, .f32⟩
  | .local _ .vmem, ⟨4, _⟩ => ⟨S1000x768, .f32⟩
  | .local _ .vmem, ⟨5, _⟩ => ⟨S1000x768, .f32⟩
  | .local _ .vmem, ⟨6, _⟩ => ⟨S1000x256, .f32⟩
  | .local _ .vmem, ⟨7, _⟩ => ⟨S1000x256, .f32⟩
  | .local _ .vmem, ⟨8, _⟩ => ⟨S256x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_call0_v0 : Ref sig .tc := ⟨.hbm, 76, rfl⟩
abbrev main_call0_v1 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "inv_sqrt_dk" => some (((Real.sqrt 32)⁻¹ : ℝ) : EReal)
  | _ => none
-- ==== ReferenceIdeal.lean ====
abbrev S10000x256 : Shape := ⟨2, ![10000, 256]⟩
abbrev S2x160000 : Shape := ⟨2, ![2, 160000]⟩
abbrev S160000x8 : Shape := ⟨2, ![160000, 8]⟩
abbrev S256x256 : Shape := ⟨2, ![256, 256]⟩
abbrev S256 : Shape := ⟨1, ![256]⟩
abbrev S1x160000 : Shape := ⟨2, ![1, 160000]⟩
abbrev S160000 : Shape := ⟨1, ![160000]⟩
abbrev S1x256 : Shape := ⟨2, ![1, 256]⟩
abbrev S10000x8x32 : Shape := ⟨3, ![10000, 8, 32]⟩
abbrev S8x10000x32 : Shape := ⟨3, ![8, 10000, 32]⟩
abbrev S_ : Shape := ⟨0, ![]⟩
abbrev S160000x1 : Shape := ⟨2, ![160000, 1]⟩
abbrev S8x160000x32 : Shape := ⟨3, ![8, 160000, 32]⟩
abbrev S8x160000 : Shape := ⟨2, ![8, 160000]⟩
abbrev S10000 : Shape := ⟨1, ![10000]⟩
abbrev S10000x1 : Shape := ⟨2, ![10000, 1]⟩
abbrev S10000x160000 : Shape := ⟨2, ![10000, 160000]⟩
abbrev S10000x160000x1 : Shape := ⟨3, ![10000, 160000, 1]⟩
abbrev S1x160000x8 : Shape := ⟨3, ![1, 160000, 8]⟩
abbrev S10000x160000x8 : Shape := ⟨3, ![10000, 160000, 8]⟩
abbrev S10000x8 : Shape := ⟨2, ![10000, 8]⟩
abbrev S8x160000x1 : Shape := ⟨3, ![8, 160000, 1]⟩
abbrev S10000x32 : Shape := ⟨2, ![10000, 32]⟩

abbrev nBuf : Space → Nat
  | .hbm => 139
  | .vmem => 0
  | .smem => 0
  | _ => 0

abbrev hbmTy0_0 (i : Nat) : BufTy := match i % 128 with
  | 0 => ⟨S10000x256, .f32⟩
  | 1 => ⟨S2x160000, .i32⟩
  | 2 => ⟨S160000x8, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S1x160000, .i32⟩
  | 12 => ⟨S160000, .i32⟩
  | 13 => ⟨S1x160000, .i32⟩
  | 14 => ⟨S160000, .i32⟩
  | 15 => ⟨S256x256, .f32⟩
  | 16 => ⟨S10000x256, .f32⟩
  | 17 => ⟨S1x256, .f32⟩
  | 18 => ⟨S10000x256, .f32⟩
  | 19 => ⟨S10000x256, .f32⟩
  | 20 => ⟨S10000x8x32, .f32⟩
  | 21 => ⟨S8x10000x32, .f32⟩
  | 22 => ⟨S256x256, .f32⟩
  | 23 => ⟨S10000x256, .f32⟩
  | 24 => ⟨S1x256, .f32⟩
  | 25 => ⟨S10000x256, .f32⟩
  | 26 => ⟨S10000x256, .f32⟩
  | 27 => ⟨S10000x8x32, .f32⟩
  | 28 => ⟨S8x10000x32, .f32⟩
  | 29 => ⟨S256x256, .f32⟩
  | 30 => ⟨S10000x256, .f32⟩
  | 31 => ⟨S1x256, .f32⟩
  | 32 => ⟨S10000x256, .f32⟩
  | 33 => ⟨S10000x256, .f32⟩
  | 34 => ⟨S10000x8x32, .f32⟩
  | 35 => ⟨S8x10000x32, .f32⟩
  | 36 => ⟨S_, .f32⟩
  | 37 => ⟨S_, .f32⟩
  | 38 => ⟨S8x10000x32, .f32⟩
  | 39 => ⟨S8x10000x32, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S8x160000x32, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S8x160000x32, .f32⟩
  | 58 => ⟨S8x160000x32, .f32⟩
  | 59 => ⟨S_, .f32⟩
  | 60 => ⟨S8x160000, .f32⟩
  | 61 => ⟨S8x160000, .f32⟩
  | 62 => ⟨S8x160000, .f32⟩
  | 63 => ⟨S1x160000, .i32⟩
  | 64 => ⟨S10000, .i32⟩
  | 65 => ⟨S10000x1, .i32⟩
  | 66 => ⟨S10000x160000, .i32⟩
  | 67 => ⟨S10000x160000, .i32⟩
  | 68 => ⟨S10000x160000, .i1⟩
  | 69 => ⟨S10000x160000x1, .i1⟩
  | 70 => ⟨S160000x8, .f32⟩
  | 71 => ⟨S1x160000x8, .f32⟩
  | 72 => ⟨S_, .f32⟩
  | 73 => ⟨S_, .f32⟩
  | 74 => ⟨S10000x160000x8, .i1⟩
  | 75 => ⟨S10000x160000x8, .f32⟩
  | 76 => ⟨S10000x160000x8, .f32⟩
  | 77 => ⟨S10000x160000x8, .f32⟩
  | 78 => ⟨S_, .f32⟩
  | 79 => ⟨S10000x8, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000x8, .f32⟩
  | 89 => ⟨S8x160000, .f32⟩
  | 90 => ⟨S8x160000, .f32⟩
  | 91 => ⟨S8x160000, .f32⟩
  | 92 => ⟨S160000x8, .f32⟩
  | 93 => ⟨S_, .f32⟩
  | 94 => ⟨S10000x8, .f32⟩
  | 95 => ⟨S160000x1, .i32⟩
  | 96 => ⟨S10000x8, .f32⟩
  | 97 => ⟨S_, .f32⟩
  | 98 => ⟨S10000x8, .f32⟩
  | 99 => ⟨S10000x8, .i1⟩
  | 100 => ⟨S_, .f32⟩
  | 101 => ⟨S_, .f32⟩
  | 102 => ⟨S10000x8, .f32⟩
  | 103 => ⟨S10000x8, .f32⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S160000x1, .i32⟩
  | 112 => ⟨S160000x8, .f32⟩
  | 113 => ⟨S8x160000, .f32⟩
  | 114 => ⟨S8x160000, .f32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S8x160000x32, .f32⟩
  | 124 => ⟨S8x160000x1, .f32⟩
  | 125 => ⟨S8x160000x32, .f32⟩
  | 126 => ⟨S8x160000x32, .f32⟩
  | 127 => ⟨S_, .f32⟩
  | _ => ⟨S10000x256, .f32⟩

abbrev hbmTy0_1 (i : Nat) : BufTy := match i % 128 with
  | 0 => ⟨S10000x32, .f32⟩
  | 1 => ⟨S160000x1, .i32⟩
  | 2 => ⟨S8x10000x32, .f32⟩
  | 3 => ⟨S8x10000x32, .f32⟩
  | 4 => ⟨S10000x8x32, .f32⟩
  | 5 => ⟨S10000x256, .f32⟩
  | 6 => ⟨S256x256, .f32⟩
  | 7 => ⟨S10000x256, .f32⟩
  | 8 => ⟨S1x256, .f32⟩
  | 9 => ⟨S10000x256, .f32⟩
  | 10 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_c_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_v35 : Ref sig .tc := ⟨.hbm, 50, rfl⟩
abbrev main_v36 : Ref sig .tc := ⟨.hbm, 51, rfl⟩
abbrev main_c_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_c_6 : Ref sig .tc := ⟨.hbm, 80, rfl⟩
abbrev main_v57 : Ref sig .tc := ⟨.hbm, 81, rfl⟩
abbrev main_v58 : Ref sig .tc := ⟨.hbm, 82, rfl⟩
abbrev main_c_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_call1_v0 : Ref sig .tc := ⟨.hbm, 101, rfl⟩
abbrev main_call1_v1 : Ref sig .tc := ⟨.hbm, 102, rfl⟩
abbrev main_v73 : Ref sig .tc := ⟨.hbm, 103, rfl⟩
abbrev main_c_11 : Ref sig .tc := ⟨.hbm, 104, rfl⟩
abbrev main_v74 : Ref sig .tc := ⟨.hbm, 105, rfl⟩
abbrev main_v75 : Ref sig .tc := ⟨.hbm, 106, rfl⟩
abbrev main_c_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_13 : Ref sig .tc := ⟨.hbm, 115, rfl⟩
abbrev main_v83 : Ref sig .tc := ⟨.hbm, 116, rfl⟩
abbrev main_v84 : Ref sig .tc := ⟨.hbm, 117, rfl⟩
abbrev main_c_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_15 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Proof.Softmax.lean ====
/- Arithmetic over the extended reals that the two programs' softmax rests on: one row of the edges' softmax computed
   with the row's maximum subtracted first and divided edge by edge (the reference), or without the maximum and divided
   once at the end (the kernel), is the same number, whatever the logits and the values are. -/
module

public import Idealize.ShloMosaic.PureOps.Ideal

@[expose] public section

noncomputable section

namespace Cert.Proof

open Idealize.ShloMosaic

variable {ι : Type} (S : Finset ι) (L V : ι → EReal)

/-- A nonnegative finite factor goes into a sum of extended reals from the right. -/
theorem sum_mul_finite {d : EReal} (h0 : 0 ≤ d) (ht : d ≠ ⊤) : (∑ e ∈ S, V e) * d = ∑ e ∈ S, V e * d := by
  classical
  induction S using Finset.induction_on with
  | empty => simp
  | insert a s ha ih =>
    rw [Finset.sum_insert ha, Finset.sum_insert ha, EReal.right_distrib_of_nonneg_of_ne_top h0 ht, ih]

/-- A sum of real numbers, as an extended real. -/
theorem coe_sum_real (x : ι → ℝ) : ∑ e ∈ S, (x e : EReal) = ((∑ e ∈ S, x e : ℝ) : EReal) := by
  classical
  induction S using Finset.induction_on with
  | empty => simp
  | insert a s ha ih => rw [Finset.sum_insert ha, Finset.sum_insert ha, ih, EReal.coe_add]

/-- The exponential is never negative. -/
theorem exp_nonneg (x : EReal) : 0 ≤ Ideal.exp x := by
  induction x with
  | bot => simp
  | top => simp
  | coe r => simpa using (Real.exp_pos r).le

/-- A denominator with zero replaced by one. -/
def nz (x : EReal) : EReal := if x = 0 then 1 else x

/-- The kernel's row: the exponentials weigh the values, and the sum is divided by the sum of the exponentials. -/
def rowPlain : EReal := Ideal.div (∑ e ∈ S, Ideal.exp (L e) * V e) (nz (∑ e ∈ S, Ideal.exp (L e)))

/-- The reference's row, for a number `M` subtracted from the logits: each exponential is divided by their sum, and
    then weighs its value. -/
def rowShifted (M : EReal) : EReal :=
  ∑ e ∈ S, Ideal.div (Ideal.exp (L e - M)) (nz (∑ e ∈ S, Ideal.exp (L e - M))) * V e

/-- Division by one changes nothing. -/
theorem div_one' (x : EReal) : Ideal.div x 1 = x := by simp [Ideal.div]

/-- Division by a positive real number is multiplication by its inverse. -/
theorem div_coe_pos (x : EReal) {d : ℝ} (hd : 0 < d) : Ideal.div x (d : EReal) = x * ((d⁻¹ : ℝ) : EReal) := by
  have : (d : EReal) ≠ 0 := by exact_mod_cast hd.ne'
  rw [Ideal.div, if_neg this, EReal.coe_inv]

/-- A zero denominator becomes one. -/
theorem nz_zero : nz 0 = 1 := if_pos rfl
/-- Any other denominator stays. -/
theorem nz_of_ne {x : EReal} (h : x ≠ 0) : nz x = x := if_neg h

/-- Where every logit is `-∞` (or the row is empty) the kernel's row is zero. -/
theorem rowPlain_bot (h : ∀ e ∈ S, L e = ⊥) : rowPlain S L V = 0 := by
  have h1 : ∑ e ∈ S, Ideal.exp (L e) * V e = 0 := Finset.sum_eq_zero fun e he => by rw [h e he]; simp
  have h2 : ∑ e ∈ S, Ideal.exp (L e) = 0 := Finset.sum_eq_zero fun e he => by rw [h e he]; simp
  rw [rowPlain, h1, h2, nz_zero, div_one']

/-- Where every shifted logit is `-∞` (or the row is empty) the reference's row is zero. -/
theorem rowShifted_bot (M : EReal) (h : ∀ e ∈ S, L e - M = ⊥) : rowShifted S L V M = 0 := by
  have h2 : ∑ e ∈ S, Ideal.exp (L e - M) = 0 := Finset.sum_eq_zero fun e he => by rw [h e he]; simp
  rw [rowShifted, h2, nz_zero]
  exact Finset.sum_eq_zero fun e he => by rw [h e he, div_one']; simp

/-- Where some logit is `+∞` the kernel's row is zero: its denominator is `+∞`. -/
theorem rowPlain_top {e₀ : ι} (he : e₀ ∈ S) (h : L e₀ = ⊤) : rowPlain S L V = 0 := by
  have h2 : ∑ e ∈ S, Ideal.exp (L e) = ⊤ := by
    refine top_le_iff.mp ?_
    calc (⊤ : EReal) = Ideal.exp (L e₀) := by rw [h]; rfl
      _ ≤ _ := Finset.single_le_sum (f := fun e => Ideal.exp (L e)) (fun e _ => exp_nonneg _) he
  rw [rowPlain, h2, nz_of_ne (by simp), Ideal.div, if_neg (by simp)]
  simp

/-- For a finite shift `r` that no logit of the row exceeds and one of them equals, the two rows agree. -/
theorem row_coe (r : ℝ) (hle : ∀ e ∈ S, L e ≤ r) {e₀ : ι} (he : e₀ ∈ S) (h : L e₀ = r) :
    rowShifted S L V r = rowPlain S L V := by
  have hx : ∀ e ∈ S, ∃ x : ℝ, 0 ≤ x ∧ Ideal.exp (L e) = x ∧ Ideal.exp (L e - r) = ((x * Real.exp (-r) : ℝ) : EReal) := by
    intro e he
    have hl := hle e he
    generalize L e = y at hl ⊢
    induction y with
    | bot => exact ⟨0, le_rfl, by simp, by simp⟩
    | top => simp at hl
    | coe z => exact ⟨Real.exp z, (Real.exp_pos z).le, rfl, by rw [← EReal.coe_sub, Ideal.exp_coe, sub_eq_add_neg, Real.exp_add]⟩
  choose! x hx0 hx1 hx2 using hx
  have hc : 0 < Real.exp (-r) := Real.exp_pos _
  have hpos : 0 < ∑ e ∈ S, x e := by
    refine Finset.sum_pos' hx0 ⟨e₀, he, ?_⟩
    have h' : (x e₀ : EReal) = (Real.exp r : EReal) := by rw [← hx1 e₀ he, h]; rfl
    rw [EReal.coe_eq_coe_iff.mp h']; exact Real.exp_pos r
  have d1 : ∑ e ∈ S, Ideal.exp (L e) = ((∑ e ∈ S, x e : ℝ) : EReal) := by
    rw [← coe_sum_real]; exact Finset.sum_congr rfl hx1
  have d2 : ∑ e ∈ S, Ideal.exp (L e - r) = (((∑ e ∈ S, x e) * Real.exp (-r) : ℝ) : EReal) := by
    rw [Finset.sum_mul, ← coe_sum_real]; exact Finset.sum_congr rfl hx2
  have hpos2 : 0 < (∑ e ∈ S, x e) * Real.exp (-r) := mul_pos hpos hc
  rw [rowShifted, rowPlain, d1, d2, nz_of_ne (by exact_mod_cast hpos2.ne'), nz_of_ne (by exact_mod_cast hpos.ne'),
    div_coe_pos _ hpos, sum_mul_finite S _ (by exact_mod_cast (inv_pos.mpr hpos).le) (EReal.coe_ne_top _)]
  refine Finset.sum_congr rfl fun e he => ?_
  rw [div_coe_pos _ hpos2, hx1 e he, hx2 e he, ← EReal.coe_mul, mul_right_comm (x e : EReal), ← EReal.coe_mul]
  congr 2
  field_simp

/-- For the row's own maximum `M` (`-∞` for an empty row) the reference's row is the kernel's. -/
theorem row_eq (M : EReal) (hle : ∀ e ∈ S, L e ≤ M) (hM : M = ⊥ ∨ ∃ e ∈ S, L e = M) :
    rowShifted S L V M = rowPlain S L V := by
  induction M with
  | bot =>
    have hb : ∀ e ∈ S, L e = ⊥ := fun e he => le_bot_iff.mp (hle e he)
    rw [rowPlain_bot S L V hb, rowShifted_bot S L V ⊥ fun e he => by rw [hb e he]; rfl]
  | top =>
    obtain ⟨e₀, he, h⟩ := hM.resolve_left (by simp)
    rw [rowPlain_top S L V he h, rowShifted_bot S L V ⊤ fun e _ => EReal.sub_top _]
  | coe r =>
    obtain ⟨e₀, he, h⟩ := hM.resolve_left (by simp)
    exact row_coe S L V r hle he h

end Cert.Proof

end
-- ==== Proof.IndexOps.lean ====
/- Gathers of rows by a list of row numbers, and sums of rows scattered by such a list, each read at one element: the
   tables have rows on their first axis (a matrix), or on the second of three (a stack of matrices, one per head). -/
module

public import Idealize.ShloMosaic.Lib.Pointwise
public import Idealize.ShloMosaic.Lib.Routing.OpsPair

@[expose] public section

noncomputable section

namespace Cert.Proof

open Idealize.ShloMosaic

/-- The row that a gather reads for an index word: the word read signed, and brought into `[0, N - 1]`. -/
def rowAt (N : Nat) (hN : 0 < N) (w : BitVec 32) : Fin N := ⟨min w.toInt.toNat (N - 1), by omega⟩

/-- A word that names row `n`, read signed, is brought to row `n`. -/
theorem rowAt_of_toInt {N : Nat} (hN : 0 < N) (w : BitVec 32) (n : Fin N) (h : w.toInt = (n.val : Int)) :
    rowAt N hN w = n := by
  apply Fin.ext
  have := n.isLt
  show min w.toInt.toNat (N - 1) = n.val
  rw [h]
  omega

/-- The row gather of a matrix, read at an element. -/
theorem gather_matrix {α : Type} {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C) :
    Host.gather (⟨[1], [0], [], [], [0], 1, ![1, C], wf⟩ : GatherDims ⟨2, ![N, C]⟩ ⟨2, ![E, 1]⟩ ⟨2, ![E, C]⟩) x idx (ix2 e j)
      = x (ix2 (rowAt N hN (idx (ix2 e 0))) j) := by
  unfold Host.gather
  congr 1
  funext a
  refine Fin.ext ?_
  match a with
  | ⟨0, _⟩ =>
    show min (idx _).toInt.toNat (N - 1) = min (idx (ix2 e 0)).toInt.toNat (N - 1)
    congr 4
    funext b
    refine Fin.ext ?_
    match b with
    | ⟨0, _⟩ => rfl
    | ⟨1, _⟩ => rfl
  | ⟨1, _⟩ => exact (Nat.zero_add j.val)

/-- The row gather of a stack of matrices, read at an element. -/
theorem gather_stack {α : Type} {H N C E : Nat} (hN : 0 < N)
    (wf : GatherDims.WF ⟨3, ![H, N, C]⟩ ⟨2, ![E, 1]⟩ ⟨3, ![H, E, C]⟩ [0, 2] [1] [] [1] [] 1 ![H, 1, C])
    (x : (⟨3, ![H, N, C]⟩ : Shape).Idx → α) (idx : IVec ⟨2, ![E, 1]⟩ 32) (h : Fin H) (e : Fin E) (j : Fin C) :
    Host.gather (⟨[0, 2], [1], [], [], [1], 1, ![H, 1, C], wf⟩ : GatherDims ⟨3, ![H, N, C]⟩ ⟨2, ![E, 1]⟩ ⟨3, ![H, E, C]⟩) x idx (ix3 h e j)
      = x (ix3 h (rowAt N hN (idx (ix2 e 0))) j) := by
  unfold Host.gather
  congr 1
  funext a
  refine Fin.ext ?_
  match a with
  | ⟨0, _⟩ => exact (Nat.zero_add h.val)
  | ⟨1, _⟩ =>
    show min (idx _).toInt.toNat (N - 1) = min (idx (ix2 e 0)).toInt.toNat (N - 1)
    congr 4
    funext b
    refine Fin.ext ?_
    match b with
    | ⟨0, _⟩ => rfl
    | ⟨1, _⟩ => rfl
  | ⟨2, _⟩ => exact (Nat.zero_add j.val)

/-- Where an update of a row scatter into a matrix lands: in its own column, at the row that its word names. -/
theorem lands_matrix {N C E : Nat} (wf : ScatterDims.WF ⟨2, ![N, C]⟩ ⟨2, ![E, 1]⟩ ⟨2, ![E, C]⟩ [1] [0] [0] 1)
    (idx : IVec ⟨2, ![E, 1]⟩ 32) (e : Fin E) (j' : Fin C) (n : Fin N) (j : Fin C) :
    (⟨[1], [0], [0], 1, wf⟩ : ScatterDims ⟨2, ![N, C]⟩ ⟨2, ![E, 1]⟩ ⟨2, ![E, C]⟩).resultIdx? (ix2 e j') idx = some (ix2 n j)
      ↔ (idx (ix2 e 0)).toInt = (n.val : Int) ∧ j' = j := by
  have hs : (⟨[1], [0], [0], 1, wf⟩ : ScatterDims ⟨2, ![N, C]⟩ ⟨2, ![E, 1]⟩ ⟨2, ![E, C]⟩).start (ix2 e j') idx 0 = (idx (ix2 e 0)).toInt := by
    show (idx _).toInt = _
    congr 2
    funext b
    refine Fin.ext ?_
    match b with
    | ⟨0, _⟩ => rfl
    | ⟨1, _⟩ => rfl
  rw [Routing.resultIdx?_eq_some]
  constructor
  · intro h
    have h0 : _ + ((0 : Nat) : Int) = (n.val : Int) := h 0
    have h1 : (0 : Int) + (j'.val : Int) = (j.val : Int) := h 1
    rw [hs] at h0
    exact ⟨by omega, Fin.ext (by omega)⟩
  · rintro ⟨h0, rfl⟩ a
    match a with
    | ⟨0, _⟩ =>
      refine (congrArg (· + ((0 : Nat) : Int)) hs).trans ?_
      show _ + ((0 : Nat) : Int) = (n.val : Int)
      omega
    | ⟨1, _⟩ =>
      show (0 : Int) + (j'.val : Int) = (j'.val : Int)
      omega

/-- Where an update of a row scatter into a stack of matrices lands: in its own matrix and column, at the row that its
    word names. -/
theorem lands_stack {H N C E : Nat} (wf : ScatterDims.WF ⟨3, ![H, N, C]⟩ ⟨2, ![E, 1]⟩ ⟨3, ![H, E, C]⟩ [0, 2] [1] [1] 1)
    (idx : IVec ⟨2, ![E, 1]⟩ 32) (h' : Fin H) (e : Fin E) (j' : Fin C) (h : Fin H) (n : Fin N) (j : Fin C) :
    (⟨[0, 2], [1], [1], 1, wf⟩ : ScatterDims ⟨3, ![H, N, C]⟩ ⟨2, ![E, 1]⟩ ⟨3, ![H, E, C]⟩).resultIdx? (ix3 h' e j') idx = some (ix3 h n j)
      ↔ h' = h ∧ (idx (ix2 e 0)).toInt = (n.val : Int) ∧ j' = j := by
  have hs : (⟨[0, 2], [1], [1], 1, wf⟩ : ScatterDims ⟨3, ![H, N, C]⟩ ⟨2, ![E, 1]⟩ ⟨3, ![H, E, C]⟩).start (ix3 h' e j') idx 1 = (idx (ix2 e 0)).toInt := by
    show (idx _).toInt = _
    congr 2
    funext b
    refine Fin.ext ?_
    match b with
    | ⟨0, _⟩ => rfl
    | ⟨1, _⟩ => rfl
  rw [Routing.resultIdx?_eq_some]
  constructor
  · intro q
    have q0 : (0 : Int) + (h'.val : Int) = (h.val : Int) := q 0
    have q1 : _ + ((0 : Nat) : Int) = (n.val : Int) := q 1
    have q2 : (0 : Int) + (j'.val : Int) = (j.val : Int) := q 2
    rw [hs] at q1
    exact ⟨Fin.ext (by omega), by omega, Fin.ext (by omega)⟩
  · rintro ⟨rfl, h0, rfl⟩ a
    match a with
    | ⟨0, _⟩ =>
      show (0 : Int) + (h'.val : Int) = (h'.val : Int)
      omega
    | ⟨1, _⟩ =>
      refine (congrArg (· + ((0 : Nat) : Int)) hs).trans ?_
      show _ + ((0 : Nat) : Int) = (n.val : Int)
      omega
    | ⟨2, _⟩ =>
      show (0 : Int) + (j'.val : Int) = (j'.val : Int)
      omega

/-- The edges whose index word, read signed, names row `n`. -/
def edgesOf {N E : Nat} (r : Fin E → BitVec 32) (n : Fin N) : Finset (Fin E) :=
  Finset.univ.filter fun e => (r e).toInt = (n.val : Int)

/-- An edge belongs to node `n` when its word, read signed, is `n`. -/
theorem mem_edgesOf {N E : Nat} (r : Fin E → BitVec 32) (n : Fin N) (e : Fin E) :
    e ∈ edgesOf r n ↔ (r e).toInt = (n.val : Int) := by simp [edgesOf]

/-- The row scatter of sums into a matrix, read at an element: what was there, and the updates of the row's edges. -/
theorem scatterAdd_matrix {N C E : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ 32) (u : FVec Ideal ⟨2, ![E, C]⟩ .f32) (n : Fin N) (j : Fin C) :
    Host.scatterAdd (⟨[1], [0], [0], 1, wf⟩ : ScatterDims ⟨2, ![N, C]⟩ ⟨2, ![E, 1]⟩ ⟨2, ![E, C]⟩) x idx u (ix2 n j)
      = x (ix2 n j) + ∑ e ∈ edgesOf (fun e => idx (ix2 e 0)) n, u (ix2 e j) := by
  show x (ix2 n j) + ∑ k ∈ Finset.univ.filter _, u k = _
  congr 1
  refine (Finset.sum_bij (fun e _ => ix2 e j) ?_ ?_ ?_ ?_).symm
  · intro e he
    exact Finset.mem_filter.2 ⟨Finset.mem_univ _, (lands_matrix wf idx e j n j).2 ⟨(mem_edgesOf _ _ _).1 he, rfl⟩⟩
  · intro e _ e' _ h
    exact congrFun h 0
  · intro k hk
    have hk := (Finset.mem_filter.1 hk).2
    rw [eq_ix2 k] at hk
    obtain ⟨h0, h1⟩ := (lands_matrix wf idx (k 0) (k 1) n j).1 hk
    refine ⟨k 0, (mem_edgesOf _ _ _).2 h0, ?_⟩
    rw [← h1]
    exact ix2_eta k
  · intro e _
    rfl

/-- The row scatter of sums into a stack of matrices, read at an element. -/
theorem scatterAdd_stack {H N C E : Nat} (wf : ScatterDims.WF ⟨3, ![H, N, C]⟩ ⟨2, ![E, 1]⟩ ⟨3, ![H, E, C]⟩ [0, 2] [1] [1] 1)
    (x : FVec Ideal ⟨3, ![H, N, C]⟩ .f32) (idx : IVec ⟨2, ![E, 1]⟩ 32) (u : FVec Ideal ⟨3, ![H, E, C]⟩ .f32)
    (h : Fin H) (n : Fin N) (j : Fin C) :
    Host.scatterAdd (⟨[0, 2], [1], [1], 1, wf⟩ : ScatterDims ⟨3, ![H, N, C]⟩ ⟨2, ![E, 1]⟩ ⟨3, ![H, E, C]⟩) x idx u (ix3 h n j)
      = x (ix3 h n j) + ∑ e ∈ edgesOf (fun e => idx (ix2 e 0)) n, u (ix3 h e j) := by
  show x (ix3 h n j) + ∑ k ∈ Finset.univ.filter _, u k = _
  congr 1
  refine (Finset.sum_bij (fun e _ => ix3 h e j) ?_ ?_ ?_ ?_).symm
  · intro e he
    exact Finset.mem_filter.2 ⟨Finset.mem_univ _, (lands_stack wf idx h e j h n j).2 ⟨rfl, (mem_edgesOf _ _ _).1 he, rfl⟩⟩
  · intro e _ e' _ q
    exact congrFun q 1
  · intro k hk
    have hk := (Finset.mem_filter.1 hk).2
    rw [eq_ix3 k] at hk
    obtain ⟨h0, h1, h2⟩ := (lands_stack wf idx (k 0) (k 1) (k 2) h n j).1 hk
    refine ⟨k 1, (mem_edgesOf _ _ _).2 h1, ?_⟩
    rw [← h0, ← h2]
    exact ix3_eta k
  · intro e _
    rfl

end Cert.Proof

end
-- ==== Proof.Spec.lean ====
/- What both programs compute, at one element: sparse multi-head attention over the edges of a graph.
   The inputs are arrays; every intermediate is a function of plain indices (node, edge, head, lane). -/
module

public import proofs.«01_k».proof.Proof.Softmax
public import proofs.«01_k».proof.Proof.IndexOps

@[expose] public section

noncomputable section

namespace Cert.Proof

open Idealize.ShloMosaic

/-- A matrix of ideal floats. -/
abbrev Mat (m n : Nat) := FVec Ideal ⟨2, ![m, n]⟩ .f32

/-- A vector of ideal floats. -/
abbrev Row (n : Nat) := FVec Ideal ⟨1, ![n]⟩ .f32

/-- The eleven arguments: node features, edge endpoints, edge biases, and four weight matrices with their biases. -/
structure Args where
  x : Mat 10000 256
  ei : IVec ⟨2, ![2, 160000]⟩ 32
  ab : Mat 160000 8
  wq : Mat 256 256
  bq : Row 256
  wk : Mat 256 256
  bk : Row 256
  wv : Mat 256 256
  bv : Row 256
  wo : Mat 256 256
  bo : Row 256

/-- A linear layer: row `n` of `x` against row `j` of `w`, plus the bias. -/
def proj (x : Mat 10000 256) (w : Mat 256 256) (b : Row 256) (n : Fin 10000) (j : Fin 256) : EReal :=
  (∑ k : Fin 256, x (ix2 n k) * w (ix2 j k)) + b (ix1 j)

/-- A negative index counts from the end. -/
def wrap (w : BitVec 32) : BitVec 32 := if w.slt 0#32 then w + 10000#32 else w

/-- The same, as a comparison and a selection of words. -/
theorem select_wrap (w : BitVec 32) :
    Scalar.select (IntOp.cmpi .slt w 0#32) (IntOp.addi w 10000#32) w = wrap w := by
  unfold wrap
  cases h : w.slt 0#32 <;> simp [Scalar.select, IntOp.cmpi, IntOp.addi, h]

/-- The node that an index word reads. -/
def node (w : BitVec 32) : Fin 10000 := rowAt 10000 (by decide) (wrap w)

/-- A word that names a node without wrapping reads that node. -/
theorem node_of_toInt (w : BitVec 32) (n : Fin 10000) (h : w.toInt = (n.val : Int)) : node w = n := by
  have hs : w.slt 0#32 = false := by
    simp only [BitVec.slt, BitVec.toInt_zero, decide_eq_false_iff_not]
    omega
  unfold node wrap
  rw [hs]
  exact rowAt_of_toInt _ _ _ h

/-- Feature `d` of head `h`, as a column. -/
def lane (h : Fin 8) (d : Fin 32) : Fin 256 := ⟨h.val * 32 + d.val, by omega⟩

/-- `1 / √32`, the scale of the queries. -/
abbrev scale : EReal := (((Real.sqrt 32)⁻¹ : ℝ) : EReal)

namespace Args

variable (a : Args)

/-- The word of edge `e`'s row. -/
def row (e : Fin 160000) : BitVec 32 := a.ei (ix2 0 e)

/-- The word of edge `e`'s column. -/
def col (e : Fin 160000) : BitVec 32 := a.ei (ix2 1 e)

/-- The score of edge `e` at head `h`: the scaled query of its row against the key of its column, plus its bias. -/
def logit (h : Fin 8) (e : Fin 160000) : EReal :=
  (∑ d : Fin 32, proj a.x a.wq a.bq (node (a.row e)) (lane h d) * scale * proj a.x a.wk a.bk (node (a.col e)) (lane h d))
    + a.ab (ix2 e h)

/-- The value that edge `e` brings to head `h` at feature `d`. -/
def value (h : Fin 8) (d : Fin 32) (e : Fin 160000) : EReal := proj a.x a.wv a.bv (node (a.col e)) (lane h d)

/-- The attention of node `n` over its edges. -/
def attn (n : Fin 10000) (h : Fin 8) (d : Fin 32) : EReal := rowPlain (edgesOf a.row n) (a.logit h) (a.value h d)

/-- The result: the attention of all heads, through the last linear layer. -/
def out (n : Fin 10000) (j : Fin 256) : EReal :=
  (∑ k : Fin 256, a.attn n ⟨k.val / 32, by omega⟩ ⟨k.val % 32, by omega⟩ * a.wo (ix2 j k)) + a.bo (ix1 j)

end Args

end Cert.Proof

end
-- ==== Proof.RefStages.lean ====
/- The reference program, stage by stage: each definition is one step of the program's own term, with its inputs as
   arguments, and the whole term is their composition. -/
module

public import proofs.«01_k».proof.Proof.Gen.ReferenceIdeal.Run
public import proofs.«01_k».proof.Proof.Spec

@[expose] public section

noncomputable section

namespace Cert.Proof.Ref

open Idealize.ShloMosaic Cert.ReferenceIdeal Cert.ReferenceIdeal.Gen

/-- An array of ideal floats. -/
abbrev Arr (s : Shape) := FVec Idealize.ShloMosaic.Ideal s FTy.f32

/-- A linear layer. -/
def linear (x : Arr S10000x256) (w : Arr S256x256) (b : Arr S256) : Arr S10000x256 :=
  addf (Host.dotGeneral dot_S10000x256_S256x256_S10000x256_1_0_0_1_n_n none x
      (transpose S256x256 [1, 0] w transposes_S256x256_S256x256_1_0))
    (broadcastInDim S10000x256 ![0, 1] bcast_S1x256_S10000x256_0_1 (broadcastInDim S1x256 ![1] bcast_S256_S1x256_1 b))

/-- The columns of a matrix of nodes split into heads, the heads first. -/
def heads (y : Arr S10000x256) : Arr S8x10000x32 :=
  transpose S8x10000x32 [1, 0, 2] (shapeCast _ y shapeCasts_S10000x256_S10000x8x32) transposes_S10000x8x32_S8x10000x32_1_0_2

/-- The queries, divided by `√32`. -/
def scaled (q : Arr S8x10000x32) : Arr S8x10000x32 :=
  Host.divf q (broadcastInDim S8x10000x32 ![] bcast_S_S8x10000x32 (Host.sqrt (constant S_ .f32 0x42000000#32)))

/-- The row words of the edges. -/
def rows (ei : IVec S2x160000 32) : IVec S160000 32 :=
  shapeCast _ (extractStridedSlice S1x160000 ![0, 0] ei slices_S2x160000_S1x160000_0_0) shapeCasts_S1x160000_S160000

/-- The column words of the edges. -/
def cols (ei : IVec S2x160000 32) : IVec S160000 32 :=
  shapeCast _ (extractStridedSlice S1x160000 ![1, 0] ei slices_S2x160000_S1x160000_1_0) shapeCasts_S1x160000_S160000

/-- Index words as one column. -/
def column (r : IVec S160000 32) : IVec S160000x1 32 := broadcastInDim S160000x1 ![0] bcast_S160000_S160000x1_0 r

/-- Index words, the negative ones counted from the end. -/
def wrapped (r : IVec S160000 32) : IVec S160000 32 :=
  select (cmpi .slt r (broadcastInDim S160000 ![] bcast_S_S160000 (constantI S_ 32 0#32)))
    (addi r (broadcastInDim S160000 ![] bcast_S_S160000 (constantI S_ 32 10000#32))) r

/-- The heads of the nodes that a list of words reads. -/
def pick (y : Arr S8x10000x32) (r : IVec S160000 32) : Arr S8x160000x32 :=
  Host.gather gather_S8x10000x32_S160000x1_S8x160000x32_02_1_n_n_1_1_8132 y (column (wrapped r))

/-- A number per node and head, for the nodes that a list of words reads; the heads first. -/
def pickT (y : Arr S10000x8) (r : IVec S160000 32) : Arr S8x160000 :=
  transpose S8x160000 [1, 0] (Host.gather gather_S10000x8_S160000x1_S160000x8_1_0_n_n_0_1_18 y (column (wrapped r)))
    transposes_S160000x8_S8x160000_1_0

/-- The scores of the edges. -/
def logits (q k : Arr S8x160000x32) (ab : Arr S160000x8) : Arr S8x160000 :=
  addf (Host.reduceAdd (mulf q k) (constant S_ .f32 0x00000000#32) reducesTo_S8x160000x32_S8x160000_d2 h_S_)
    (transpose S8x160000 [1, 0] ab transposes_S160000x8_S8x160000_1_0)

/-- The maximum of each node's scores. -/
def rowMax (l : Arr S8x160000) (r : IVec S160000 32) : Arr S10000x8 :=
  Host.reduce FloatOps.maximumf
    (select
      (broadcastInDim S10000x160000x8 ![0, 1, 2] bcast_S10000x160000x1_S10000x160000x8_0_1_2
        (broadcastInDim S10000x160000x1 ![0, 1] bcast_S10000x160000_S10000x160000x1_0_1
          (cmpi .eq
            (broadcastInDim S10000x160000 ![0, 1] bcast_S1x160000_S10000x160000_0_1
              (broadcastInDim S1x160000 ![1] bcast_S160000_S1x160000_1 r))
            (broadcastInDim S10000x160000 ![0, 1] bcast_S10000x1_S10000x160000_0_1
              (broadcastInDim S10000x1 ![0] bcast_S10000_S10000x1_0 (iotaInDim S10000 32 0))))))
      (broadcastInDim S10000x160000x8 ![0, 1, 2] bcast_S1x160000x8_S10000x160000x8_0_1_2
        (broadcastInDim S1x160000x8 ![1, 2] bcast_S160000x8_S1x160000x8_1_2
          (transpose S160000x8 [1, 0] l transposes_S8x160000_S160000x8_1_0)))
      (broadcastInDim S10000x160000x8 ![] bcast_S_S10000x160000x8 (constant S_ .f32 0xFF800000#32)))
    (constant S_ .f32 0xFF800000#32) reducesTo_S10000x160000x8_S10000x8_d1 h_S_

/-- The exponentials of the scores less their node's maximum. -/
def weights (l : Arr S8x160000) (r : IVec S160000 32) : Arr S8x160000 := Host.exp (subf l (pickT (rowMax l r) r))

/-- The sum of each node's exponentials. -/
def denom (s : Arr S8x160000) (r : IVec S160000 32) : Arr S10000x8 :=
  Host.scatterAdd scatter_S10000x8_S160000x1_S160000x8_1_0_0_1
    (broadcastInDim S10000x8 ![] bcast_S_S10000x8 (constant S_ .f32 0x00000000#32)) (column r)
    (transpose S160000x8 [1, 0] s transposes_S8x160000_S160000x8_1_0)

/-- One in the place of zero. -/
def nonzero (y : Arr S10000x8) : Arr S10000x8 :=
  select (cmpf .oeq y (broadcastInDim S10000x8 ![] bcast_S_S10000x8 (constant S_ .f32 0x00000000#32)))
    (broadcastInDim S10000x8 ![] bcast_S_S10000x8 (constant S_ .f32 0x3F800000#32)) y

/-- The weighted values, summed by node. -/
def gathered (p : Arr S8x160000) (v : Arr S8x160000x32) (r : IVec S160000 32) : Arr S8x10000x32 :=
  Host.scatterAdd scatter_S8x10000x32_S160000x1_S8x160000x32_02_1_1_1
    (broadcastInDim S8x10000x32 ![1, 2] bcast_S10000x32_S8x10000x32_1_2
      (broadcastInDim S10000x32 ![] bcast_S_S10000x32 (constant S_ .f32 0x00000000#32)))
    (column r)
    (mulf
      (broadcastInDim S8x160000x32 ![0, 1, 2] bcast_S8x160000x1_S8x160000x32_0_1_2
        (broadcastInDim S8x160000x1 ![0, 1] bcast_S8x160000_S8x160000x1_0_1 p)) v)

/-- The heads side by side again. -/
def joined (y : Arr S8x10000x32) : Arr S10000x256 :=
  shapeCast _ (transpose S10000x8x32 [1, 0, 2] y transposes_S8x10000x32_S10000x8x32_1_0_2) shapeCasts_S10000x8x32_S10000x256

/-- The exponentials over their node's sum. -/
def shares (l : Arr S8x160000) (r : IVec S160000 32) : Arr S8x160000 :=
  Host.divf (weights l r) (pickT (nonzero (denom (weights l r) r)) r)

/-- The scores as the program has them. -/
def scores (a : Args) : Arr S8x160000 :=
  logits (pick (scaled (heads (linear a.x a.wq a.bq))) (rows a.ei)) (pick (heads (linear a.x a.wk a.bk)) (cols a.ei)) a.ab

/-- The whole program. -/
def result (a : Args) : Arr S10000x256 :=
  linear (joined (gathered (shares (scores a) (rows a.ei)) (pick (heads (linear a.x a.wv a.bv)) (cols a.ei)) (rows a.ei))) a.wo a.bo

/-- The arguments, in the reference's memory. -/
def argsOf (m : (ℓ : Loc nD τ sig) → Buf (Elt Idealize.ShloMosaic.Ideal) ℓ) (c : Dev nD) : Args where
  x := m (c.tc.loc main_arg0)
  ei := m (c.tc.loc main_arg1)
  ab := m (c.tc.loc main_arg2)
  wq := m (c.tc.loc main_arg3)
  bq := m (c.tc.loc main_arg4)
  wk := m (c.tc.loc main_arg5)
  bk := m (c.tc.loc main_arg6)
  wv := m (c.tc.loc main_arg7)
  bv := m (c.tc.loc main_arg8)
  wo := m (c.tc.loc main_arg9)
  bo := m (c.tc.loc main_arg10)

/-- The run's composed result is the composition of the stages. -/
theorem res_eq (m : (ℓ : Loc nD τ sig) → Buf (Elt Idealize.ShloMosaic.Ideal) ℓ) (c : Dev nD) :
    Value.res_main_v103 m c = result (argsOf m c) := rfl

end Cert.Proof.Ref

end
-- ==== Proof.KernelRegions.lean ====
/- What the two pipelined matrix products leave in their output arrays, as functions of their input arrays:
   every block of a thousand rows is the same sum of products plus bias, so the blocks join to the whole array. -/
module

public import proofs.«01_k».proof.Proof.Gen.KernelIdeal.Frame
public import Idealize.ShloMosaic.Lib.Pipeline.ValueKit
public import proofs.«01_k».proof.Proof.Spec

@[expose] public section

noncomputable section

namespace Cert.Proof.Ker

open Idealize.ShloMosaic Idealize.ShloMosaic.TcCoe Idealize.SL.Sem Cert.KernelIdeal Cert.KernelIdeal.Gen

variable (V : (c : Dev nD) → (b : Ref sig .tc) → Buf (Elt Idealize.ShloMosaic.Ideal) ((c : Thread nD τ).loc b))

/-- The factor of column `j` of the joint query, key and value weights: the scale on the queries, one elsewhere. -/
def factor (j : Fin 768) : EReal := if j.val < 256 then scale else 1

/-- The factor of a column, as the comparison and selection that the first body makes. -/
theorem select_factor (j : Fin 768) :
    Scalar.select (IntOp.cmpi .slt (BitVec.ofNat 32 j.val) 256#32) scale (1 : EReal) = factor j := by
  have hj := j.isLt
  have hs : (BitVec.ofNat 32 j.val).slt 256#32 = decide (j.val < 256) := by
    have h1 : (BitVec.ofNat 32 j.val).toInt = (j.val : Int) := by
      rw [BitVec.toInt_ofNat', Int.bmod_eq_of_le] <;> omega
    have h2 : (256#32 : BitVec 32).toInt = 256 := by decide
    simp only [BitVec.slt, h1, h2, decide_eq_decide]
    omega
  unfold factor
  by_cases h : j.val < 256 <;> simp [Scalar.select, IntOp.cmpi, hs, h]

/-- The first product's array. -/
def qkv (x : Mat 10000 256) (w : Mat 256 768) (b : Mat 1 768) : Mat 10000 768 := fun i =>
  (∑ k : Fin 256, x (ix2 (i 0) k) * (w (ix2 k (i 1)) * factor (i 1))) + b (ix2 0 (i 1)) * factor (i 1)

/-- The second product's array. -/
def proj₂ (x : Mat 10000 256) (w : Mat 256 256) (b : Mat 1 256) : Mat 10000 256 := fun i =>
  (∑ k : Fin 256, x (ix2 (i 0) k) * w (ix2 k (i 1))) + b (ix2 0 (i 1))

/-- Where a row of the block of a thousand rows at point `t` lies in the whole. -/
def rowOf (t : Nat) (h : t < 10) (y : Fin 1000) : Fin 10000 := ⟨t * 1000 + y.val, by omega⟩

/-! ## The first product: where its blocks lie -/

/-- The block of rows that a step of the first product takes is the step's own. -/
theorem idx0_0 : ∀ t : Fin grid0.N, win0_0.index t = ![t.val, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![t.val, 0] := by decide +kernel

/-- The feature block of a step of the first product, at an element. -/
theorem read0_0 (c : Dev nD) (t : Fin cfg0.N) (y : Fin 1000) (k : Fin 256) :
    iblk0 V c 0 t (ix2 y k) = V c main_arg0 (ix2 (rowOf t.val t.isLt y) k) := by
  blk_ext [iblk0, idx0_0 t, rowOf]

/-- The weight block of the first product: the whole array. -/
theorem read0_1 (c : Dev nD) (t : Fin cfg0.N) (k : Fin 256) (j : Fin 768) :
    iblk0 V c 1 t (ix2 k j) = V c main_v3 (ix2 k j) := by
  blk_ext [iblk0, idx0_1 t]

/-- The bias block of the first product: the whole row. -/
theorem read0_2 (c : Dev nD) (t : Fin cfg0.N) (j : Fin 768) :
    iblk0 V c 2 t (ix2 0 j) = V c main_v5 (ix2 0 j) := by
  blk_ext [iblk0, idx0_2 t]

/-- Where a step of the first product writes an element of its block. -/
theorem emb0 (t : Fin cfg0.N) (y : Fin 1000) (j : Fin 768) :
    (((View.whole main_v6).slice (win0_3.rect t)).emb (ix2 y j)) = ix2 (rowOf t.val t.isLt y) j := by
  blk_ext [idx0_3 t, rowOf]

/-- The first product's array after its run. -/
theorem region0 (c : Dev nD) :
    (dat0 V c).arrAt 3 cfg0.N = qkv (V c main_arg0) (V c main_v3) (V c main_v5) := by
  refine (dat0 V c).arrAt_eq_of_covers 3 _ (by decide +kernel) fun t hf y => ?_
  blk_simp
  rw [after0_3]
  frame_out
  idx_vars y
  pointwise [k0_pay1]
  have hk : (Named.named κ "inv_sqrt_dk" 0x3E3504F3#32 : Idealize.ShloMosaic.Ideal .f32) = scale := rfl
  simp only [hk, select_factor, read0_0, read0_1, read0_2]
  exact (congrArg (qkv (V c main_arg0) (V c main_v3) (V c main_v5)) (emb0 t y0 y1)).symm

/-! ## The second product: where its blocks lie -/

/-- The block of rows that a step of the second product takes is the step's own. -/
theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![t.val, 0] := by decide +kernel

/-- The attention block of a step of the second product, at an element. -/
theorem read1_0 (c : Dev nD) (t : Fin cfg1.N) (y : Fin 1000) (k : Fin 256) :
    iblk1 V c 0 t (ix2 y k) = V c main_v57 (ix2 (rowOf t.val t.isLt y) k) := by
  blk_ext [iblk1, idx1_0 t, rowOf]

/-- The weight block of the second product: the whole array. -/
theorem read1_1 (c : Dev nD) (t : Fin cfg1.N) (k j : Fin 256) :
    iblk1 V c 1 t (ix2 k j) = V c main_v58 (ix2 k j) := by
  blk_ext [iblk1, idx1_1 t]

/-- The bias block of the second product: the whole row. -/
theorem read1_2 (c : Dev nD) (t : Fin cfg1.N) (j : Fin 256) :
    iblk1 V c 2 t (ix2 0 j) = V c main_v59 (ix2 0 j) := by
  blk_ext [iblk1, idx1_2 t]

/-- Where a step of the second product writes an element of its block. -/
theorem emb1 (t : Fin cfg1.N) (y : Fin 1000) (j : Fin 256) :
    (((View.whole main_v60).slice (win1_3.rect t)).emb (ix2 y j)) = ix2 (rowOf t.val t.isLt y) j := by
  blk_ext [idx1_3 t, rowOf]

/-- The second product's array after its run. -/
theorem region1 (c : Dev nD) :
    (dat1 V c).arrAt 3 cfg1.N = proj₂ (V c main_v57) (V c main_v58) (V c main_v59) := by
  refine (dat1 V c).arrAt_eq_of_covers 3 _ (by decide +kernel) fun t hf y => ?_
  blk_simp
  rw [after1_3]
  frame_out
  idx_vars y
  pointwise [k1_pay1]
  simp only [read1_0, read1_1, read1_2]
  exact (congrArg (proj₂ (V c main_v57) (V c main_v58) (V c main_v59)) (emb1 t y0 y1)).symm

end Cert.Proof.Ker

end
-- ==== Proof.KernelStages.lean ====
/- The kernel program's host operations, stage by stage: what enters the first product, what happens to its result
   up to the second product, and that the program's buffers hold these stages' arrays. -/
module

public import proofs.«01_k».proof.Proof.Gen.KernelIdeal.Frame
public import Idealize.ShloMosaic.Lib.StableHlo.ReadAt
public import proofs.«01_k».proof.Proof.RefStages
public import proofs.«01_k».proof.Proof.KernelRegions

@[expose] public section

noncomputable section

namespace Cert.Proof.Ker

open Idealize.ShloMosaic Idealize.ShloMosaic.TcCoe Idealize.SL.Sem Cert.KernelIdeal Cert.KernelIdeal.Gen
open Cert.Proof.Ref (Arr rows cols column wrapped nonzero)

/-- The query, key and value weights side by side, each transposed. -/
def wAll (wq wk wv : Arr S256x256) : Arr S256x768 :=
  concatenate S256x768 1
    [⟨S256x256, transpose S256x256 [1, 0] wq transposes_S256x256_S256x256_1_0⟩,
     ⟨S256x256, transpose S256x256 [1, 0] wk transposes_S256x256_S256x256_1_0⟩,
     ⟨S256x256, transpose S256x256 [1, 0] wv transposes_S256x256_S256x256_1_0⟩]
    concatenates_S256x256_S256x256_S256x256_S256x768_d1

/-- Their biases side by side, as a row. -/
def bAll (bq bk bv : Arr S256) : Arr S1x768 :=
  shapeCast _ (concatenate S768 0 [⟨S256, bq⟩, ⟨S256, bk⟩, ⟨S256, bv⟩] concatenates_S256_S256_S256_S768_d0) shapeCasts_S768_S1x768

/-- The queries, keys and values of all nodes. -/
def queries (y : Arr S10000x768) : Arr S10000x256 := extractStridedSlice S10000x256 ![0, 0] y slices_S10000x768_S10000x256_0_0
def keys (y : Arr S10000x768) : Arr S10000x256 := extractStridedSlice S10000x256 ![0, 256] y slices_S10000x768_S10000x256_0_256
def values (y : Arr S10000x768) : Arr S10000x256 := extractStridedSlice S10000x256 ![0, 512] y slices_S10000x768_S10000x256_0_512

/-- The rows of the nodes that a list of words reads, split into heads. -/
def pick (y : Arr S10000x256) (r : IVec S160000 32) : Arr S160000x8x32 :=
  shapeCast _ (Host.gather gather_S10000x256_S160000x1_S160000x256_1_0_n_n_0_1_1256 y (column (wrapped r))) shapeCasts_S160000x256_S160000x8x32

/-- The exponentials of the edges' scores. -/
def weights (q k : Arr S160000x8x32) (ab : Arr S160000x8) : Arr S160000x8 :=
  Host.exp (addf (Host.reduceAdd (mulf q k) (constant S_ .f32 0x00000000#32) reducesTo_S160000x8x32_S160000x8_d2 h_S_) ab)

/-- The sum of each node's exponentials. -/
def denom (s : Arr S160000x8) (r : IVec S160000 32) : Arr S10000x8 :=
  Host.scatterAdd scatter_S10000x8_S160000x1_S160000x8_1_0_0_1
    (broadcastInDim S10000x8 ![] bcast_S_S10000x8 (constant S_ .f32 0x00000000#32)) (column r) s

/-- The values, each by its edge's exponential, summed by node. -/
def numer (s : Arr S160000x8) (v : Arr S160000x8x32) (r : IVec S160000 32) : Arr S10000x256 :=
  Host.scatterAdd scatter_S10000x256_S160000x1_S160000x256_1_0_0_1
    (broadcastInDim S10000x256 ![] bcast_S_S10000x256 (constant S_ .f32 0x00000000#32)) (column r)
    (shapeCast _ (mulf
      (broadcastInDim S160000x8x32 ![0, 1, 2] bcast_S160000x8x1_S160000x8x32_0_1_2
        (broadcastInDim S160000x8x1 ![0, 1] bcast_S160000x8_S160000x8x1_0_1 s)) v) shapeCasts_S160000x8x32_S160000x256)

/-- The quotient of the two sums. -/
def quotient (y : Arr S10000x256) (d : Arr S10000x8) : Arr S10000x256 :=
  Host.divf y (shapeCast _ (broadcastInDim S10000x8x32 ![0, 1] bcast_S10000x8_S10000x8x32_0_1 d) shapeCasts_S10000x8x32_S10000x256)

/-- The last layer's weights, transposed, and its bias as a row. -/
def wOut (wo : Arr S256x256) : Arr S256x256 := transpose S256x256 [1, 0] wo transposes_S256x256_S256x256_1_0
def bOut (bo : Arr S256) : Arr S1x256 := shapeCast _ bo shapeCasts_S256_S1x256

variable (m : (ℓ : Loc nD τ sig) → Buf (Elt Idealize.ShloMosaic.Ideal) ℓ) (ρ : Dev nD → PrngReg) (c : Dev nD)

/-- The arguments, in the kernel's memory. -/
def argsOf : Args where
  x := m (c.tc.loc main_arg0)
  ei := m (c.tc.loc main_arg1)
  ab := m (c.tc.loc main_arg2)
  wq := m (c.tc.loc main_arg3)
  bq := m (c.tc.loc main_arg4)
  wk := m (c.tc.loc main_arg5)
  bk := m (c.tc.loc main_arg6)
  wv := m (c.tc.loc main_arg7)
  bv := m (c.tc.loc main_arg8)
  wo := m (c.tc.loc main_arg9)
  bo := m (c.tc.loc main_arg10)

/-- The joint weights, where the first product reads them. -/
theorem W1_v3 : W1 m ρ c main_v3 = wAll (argsOf m c).wq (argsOf m c).wk (argsOf m c).wv := by
  simp only [W1, hostOps0]
  after_results_simp
  rfl

/-- The joint biases, where the first product reads them. -/
theorem W1_v5 : W1 m ρ c main_v5 = bAll (argsOf m c).bq (argsOf m c).bk (argsOf m c).bv := by
  simp only [W1, hostOps0]
  after_results_simp
  rfl

/-- The edges' exponentials, from the first product's array. -/
def edgeWeights (a : Args) (y : Arr S10000x768) : Arr S160000x8 :=
  weights (pick (queries y) (rows a.ei)) (pick (keys y) (cols a.ei)) a.ab

/-- The sums of exponentials, where the program keeps them. -/
theorem W3_v36 : W3 m ρ c main_v36
    = denom (edgeWeights (argsOf m c) (W2 m ρ c main_v6)) (rows (argsOf m c).ei) := by
  have h1 : W2 m ρ c main_arg1 = (argsOf m c).ei := W2_args m ρ c main_arg1 (by decide)
  have h2 : W2 m ρ c main_arg2 = (argsOf m c).ab := W2_args m ρ c main_arg2 (by decide)
  rw [← h1]
  unfold edgeWeights
  rw [← h1, ← h2]
  simp only [W3, hostOps1]
  after_results_simp
  rfl

/-- The sums of weighted values, where the program keeps them. -/
theorem W3_v51 : W3 m ρ c main_v51
    = numer (edgeWeights (argsOf m c) (W2 m ρ c main_v6)) (pick (values (W2 m ρ c main_v6)) (cols (argsOf m c).ei)) (rows (argsOf m c).ei) := by
  have h1 : W2 m ρ c main_arg1 = (argsOf m c).ei := W2_args m ρ c main_arg1 (by decide)
  have h2 : W2 m ρ c main_arg2 = (argsOf m c).ab := W2_args m ρ c main_arg2 (by decide)
  unfold edgeWeights
  rw [← h1, ← h2]
  simp only [W3, hostOps1]
  after_results_simp
  rfl

/-- Which sums are zero, and the number one. -/
def isZero (y : Arr S10000x8) : IVec S10000x8 1 :=
  cmpf .oeq y (broadcastInDim S10000x8 ![] bcast_S_S10000x8 (constant S_ .f32 0x00000000#32))
def one : Arr S_ := constant S_ .f32 0x3F800000#32

/-- The sums of exponentials, one in the place of zero. -/
theorem W4_v54 : W4 m ρ c main_v54 = nonzero (W3 m ρ c main_v36) := by
  have h53 : W3 m ρ c main_v53 = isZero (W3 m ρ c main_v36) := by
    simp only [W3, hostOps1]
    after_results_simp
    rfl
  have h8 : W3 m ρ c main_cst_8 = one := by
    simp only [W3, hostOps1]
    after_results_simp
    rfl
  simp only [W4]
  generalize W3 m ρ c = V at h53 h8 ⊢
  simp only [hostOps1_1, StableHlo.TRef.ternary, StableHlo.TRef.unary, StableHlo.TRef.toBuf, StableHlo.TRef.ofBuf, cast_eq]
  after_results_simp
  rw [h53, h8]
  rfl

/-- The nodes' attention, where the second product reads it. -/
theorem W5_v57 : W5 m ρ c main_v57 = quotient (W3 m ρ c main_v51) (nonzero (W3 m ρ c main_v36)) := by
  have h51 : W4 m ρ c main_v51 = W3 m ρ c main_v51 := W4_of m ρ c main_v51 (by decide)
  rw [← W4_v54, ← h51]
  simp only [W5, hostOps1_2]
  after_results_simp
  rfl

/-- The last layer's weights, where the second product reads them. -/
theorem W5_v58 : W5 m ρ c main_v58 = wOut (argsOf m c).wo := by
  have h9 : W4 m ρ c main_arg9 = (argsOf m c).wo := W4_args m ρ c main_arg9 (by decide)
  rw [← h9]
  simp only [W5, hostOps1_2]
  after_results_simp
  rfl

/-- The last layer's bias, where the second product reads it. -/
theorem W5_v59 : W5 m ρ c main_v59 = bOut (argsOf m c).bo := by
  have h10 : W4 m ρ c main_arg10 = (argsOf m c).bo := W4_args m ρ c main_arg10 (by decide)
  rw [← h10]
  simp only [W5, hostOps1_2]
  after_results_simp
  rfl

/-- The first product's result. -/
theorem W2_v6 : W2 m ρ c main_v6 = qkv (argsOf m c).x (W1 m ρ c main_v3) (W1 m ρ c main_v5) := by
  have h0 : W1 m ρ c main_arg0 = (argsOf m c).x := W1_args m ρ c main_arg0 (by decide)
  rw [← h0]
  exact (W2_arr m ρ c 3).trans (region0 (V1 m ρ) c)

/-- The second product's result. -/
theorem W6_v60 : W6 m ρ c main_v60 = proj₂ (W5 m ρ c main_v57) (W5 m ρ c main_v58) (W5 m ρ c main_v59) :=
  (W6_arr m ρ c 3).trans (region1 (V5 m ρ) c)

/-- The first product's array, from the arguments. -/
def joint (a : Args) : Mat 10000 768 := qkv a.x (wAll a.wq a.wk a.wv) (bAll a.bq a.bk a.bv)

/-- The nodes' attention, from the arguments. -/
def attended (a : Args) : Arr S10000x256 :=
  quotient (numer (edgeWeights a (joint a)) (pick (values (joint a)) (cols a.ei)) (rows a.ei))
    (nonzero (denom (edgeWeights a (joint a)) (rows a.ei)))

/-- The whole program. -/
def result (a : Args) : Mat 10000 256 := proj₂ (attended a) (wOut a.wo) (bOut a.bo)

/-- The program's result buffer holds the whole program of the arguments. -/
theorem W6_eq : W6 m ρ c main_v60 = result (argsOf m c) := by
  have h6 : W2 m ρ c main_v6 = joint (argsOf m c) := by
    rw [W2_v6, W1_v3, W1_v5]
    rfl
  rw [W6_v60, W5_v57, W5_v58, W5_v59, W3_v51, W3_v36, h6]
  rfl

end Cert.Proof.Ker

end
-- ==== Proof.RefValue.lean ====
/- The reference program read at one element, stage by stage, down to the attention it computes. -/
module

public import proofs.«01_k».proof.Proof.RefStages

@[expose] public section

noncomputable section

namespace Cert.Proof.Ref

open Idealize.ShloMosaic Cert.ReferenceIdeal Cert.ReferenceIdeal.Gen

/-- A linear layer, at an element. -/
theorem linear_at (x : Arr S10000x256) (w : Arr S256x256) (b : Arr S256) (n : Fin 10000) (j : Fin 256) :
    linear x w b (ix2 n j) = proj x w b n j := by
  pointwise [linear]
  rfl

/-- A row split into heads, at an element. -/
theorem heads_at (y : Arr S10000x256) (h : Fin 8) (n : Fin 10000) (d : Fin 32) :
    heads y (ix3 h n d) = y (ix2 n (lane h d)) := by
  pointwise [heads]
  rfl

/-- Division by `√32` is multiplication by the scale. -/
theorem scaled_at (q : Arr S8x10000x32) (h : Fin 8) (n : Fin 10000) (d : Fin 32) :
    scaled q (ix3 h n d) = q (ix3 h n d) * scale := by
  pointwise [scaled]
  have h32 : Ideal.ofBits FTy.f32 0x42000000#32 = ((32 : ℝ) : EReal) := by
    simp [Ideal.ofBits, Ideal.ieee, -EReal.coe_mul]
    norm_num
  have hs : Ideal.sqrt (Ideal.ofBits FTy.f32 0x42000000#32) = ((Real.sqrt 32 : ℝ) : EReal) := by
    rw [h32]
    exact if_neg (by norm_num)
  exact (congrArg (Ideal.div _) hs).trans (div_coe_pos _ (by positivity))

/-- The words of the edges' rows. -/
theorem rows_at (ei : IVec S2x160000 32) (e : Fin 160000) : rows ei (ix1 e) = ei (ix2 0 e) := by
  pointwise [rows]

/-- The words of the edges' columns. -/
theorem cols_at (ei : IVec S2x160000 32) (e : Fin 160000) : cols ei (ix1 e) = ei (ix2 1 e) := by
  pointwise [cols]

/-- A list of words as a column. -/
theorem column_at (r : IVec S160000 32) (e : Fin 160000) : column r (ix2 e 0) = r (ix1 e) := by
  pointwise [column]

/-- A negative word counts from the end. -/
theorem wrapped_at (r : IVec S160000 32) (e : Fin 160000) : wrapped r (ix1 e) = wrap (r (ix1 e)) := by
  pointwise [wrapped]
  exact select_wrap _

/-- What an edge takes from an array of heads: the row of the node that its word reads. -/
theorem pick_at (y : Arr S8x10000x32) (r : IVec S160000 32) (h : Fin 8) (e : Fin 160000) (d : Fin 32) :
    pick y r (ix3 h e d) = y (ix3 h (node (r (ix1 e))) d) := by
  refine (gather_stack (by decide) _ y _ h e d).trans ?_
  rw [column_at, wrapped_at]
  rfl

/-- What an edge takes from an array of nodes by heads, heads first. -/
theorem pickT_at (y : Arr S10000x8) (r : IVec S160000 32) (h : Fin 8) (e : Fin 160000) :
    pickT y r (ix2 h e) = y (ix2 (node (r (ix1 e))) h) := by
  unfold pickT
  pointwise
  refine (gather_matrix (by decide) _ y _ e h).trans ?_
  rw [column_at, wrapped_at]
  rfl

/-- The score of an edge at a head: query against key, plus the bias. -/
theorem logits_at (q k : Arr S8x160000x32) (ab : Arr S160000x8) (h : Fin 8) (e : Fin 160000) :
    logits q k ab (ix2 h e) = (∑ d : Fin 32, q (ix3 h e d) * k (ix3 h e d)) + ab (ix2 e h) := by
  pointwise [logits]

/-- A masked maximum over all edges: the maximum of the scores of node `n`'s edges, below every score without any. -/
theorem rowMax_at (l : Arr S8x160000) (r : IVec S160000 32) (n : Fin 10000) (h : Fin 8) :
    rowMax l r (ix2 n h)
      = Finset.univ.sup fun e : Fin 160000 => if (r (ix1 e)).toInt = (n.val : Int) then l (ix2 h e) else ⊥ := by
  pointwise [rowMax]
  have hb : Ideal.ofBits FTy.f32 0xFF800000#32 = (⊥ : EReal) := by
    simp [Ideal.ofBits, Ideal.ieee]
  rw [hb]
  show Finset.univ.sup _ = _
  congr 1
  funext e
  have hn : (BitVec.ofNat 32 n.val).toInt = (n.val : Int) := by
    have := n.isLt
    rw [BitVec.toInt_ofNat', Int.bmod_eq_of_le] <;> omega
  by_cases hr : r (ix1 e) = BitVec.ofNat 32 n.val
  · simp [Scalar.select, IntOp.cmpi, hr, hn]
  · have : ¬ (r (ix1 e)).toInt = (n.val : Int) := fun q => hr (BitVec.toInt_inj.1 (q.trans hn.symm))
    have hq : (r (ix1 e) == BitVec.ofNat 32 n.val) = false := by simpa using hr
    simp [Scalar.select, IntOp.cmpi, hq, this]

/-- No score of node `n` is above its maximum. -/
theorem le_rowMax (l : Arr S8x160000) (r : IVec S160000 32) (n : Fin 10000) (h : Fin 8) :
    ∀ e ∈ edgesOf (fun e => r (ix1 e)) n, l (ix2 h e) ≤ rowMax l r (ix2 n h) := by
  intro e he
  have he := (mem_edgesOf _ _ _).1 he
  rw [rowMax_at]
  refine le_trans (le_of_eq ?_) (Finset.le_sup (Finset.mem_univ e))
  rw [if_pos he]

/-- The maximum of node `n` is `-∞`, or one of its scores. -/
theorem rowMax_attained (l : Arr S8x160000) (r : IVec S160000 32) (n : Fin 10000) (h : Fin 8) :
    rowMax l r (ix2 n h) = ⊥ ∨ ∃ e ∈ edgesOf (fun e => r (ix1 e)) n, l (ix2 h e) = rowMax l r (ix2 n h) := by
  rw [rowMax_at]
  obtain ⟨e, _, he⟩ := Finset.exists_mem_eq_sup Finset.univ ⟨(0 : Fin 160000), Finset.mem_univ _⟩
    (fun e : Fin 160000 => if (r (ix1 e)).toInt = (n.val : Int) then l (ix2 h e) else (⊥ : EReal))
  rw [he]
  by_cases hr : (r (ix1 e)).toInt = (n.val : Int)
  · exact Or.inr ⟨e, (mem_edgesOf _ _ _).2 hr, (if_pos hr).symm⟩
  · exact Or.inl (if_neg hr)

/-- The exponential of an edge's score, its node's maximum subtracted. -/
theorem weights_at (l : Arr S8x160000) (r : IVec S160000 32) (h : Fin 8) (e : Fin 160000) :
    weights l r (ix2 h e) = Ideal.exp (l (ix2 h e) - rowMax l r (ix2 (node (r (ix1 e))) h)) := by
  unfold weights
  pointwise
  rw [pickT_at]

/-- The sum of the exponentials of a node's edges. -/
theorem denom_at (s : Arr S8x160000) (r : IVec S160000 32) (n : Fin 10000) (h : Fin 8) :
    denom s r (ix2 n h) = ∑ e ∈ edgesOf (fun e => r (ix1 e)) n, s (ix2 h e) := by
  refine (scatterAdd_matrix _ _ _ _ n h).trans ?_
  pointwise
  simp only [column_at]

/-- Zero is replaced by one. -/
theorem nonzero_at (y : Arr S10000x8) (n : Fin 10000) (h : Fin 8) :
    nonzero y (ix2 n h) = nz (y (ix2 n h)) := by
  pointwise [nonzero]
  rfl

/-- The sum of the values of a node's edges, each by its share. -/
theorem gathered_at (p : Arr S8x160000) (v : Arr S8x160000x32) (r : IVec S160000 32) (h : Fin 8) (n : Fin 10000) (d : Fin 32) :
    gathered p v r (ix3 h n d) = ∑ e ∈ edgesOf (fun e => r (ix1 e)) n, p (ix2 h e) * v (ix3 h e d) := by
  refine (scatterAdd_stack _ _ _ _ h n d).trans ?_
  pointwise
  simp only [column_at]

/-- Heads joined into rows: column `k` is feature `k % 32` of head `k / 32`. -/
theorem joined_at (y : Arr S8x10000x32) (n : Fin 10000) (k : Fin 256) :
    joined y (ix2 n k) = y (ix3 ⟨k.val / 32, by omega⟩ n ⟨k.val % 32, by omega⟩) := by
  pointwise [joined]

/-- The share of an edge of node `n`: its exponential over the sum of the node's exponentials. -/
theorem shares_at (l : Arr S8x160000) (r : IVec S160000 32) (n : Fin 10000) (h : Fin 8) (e : Fin 160000)
    (he : e ∈ edgesOf (fun e => r (ix1 e)) n) :
    shares l r (ix2 h e)
      = Ideal.div (Ideal.exp (l (ix2 h e) - rowMax l r (ix2 n h)))
          (nz (∑ e' ∈ edgesOf (fun e => r (ix1 e)) n, Ideal.exp (l (ix2 h e') - rowMax l r (ix2 n h)))) := by
  have hn : ∀ e' ∈ edgesOf (fun e => r (ix1 e)) n, node (r (ix1 e')) = n :=
    fun e' he' => node_of_toInt _ n ((mem_edgesOf _ _ _).1 he')
  unfold shares
  pointwise
  rw [pickT_at, nonzero_at, denom_at, weights_at, hn e he]
  have hs : ∑ e' ∈ edgesOf (fun e => r (ix1 e)) n, weights l r (ix2 h e')
      = ∑ e' ∈ edgesOf (fun e => r (ix1 e)) n, Ideal.exp (l (ix2 h e') - rowMax l r (ix2 n h)) := by
    refine Finset.sum_congr rfl fun e' he' => ?_
    rw [weights_at, hn e' he']
  rw [hs]

/-- The program's scores. -/
theorem scores_at (a : Args) (h : Fin 8) (e : Fin 160000) : scores a (ix2 h e) = a.logit h e := by
  unfold scores
  rw [logits_at]
  simp only [pick_at, scaled_at, heads_at, linear_at, rows_at, cols_at]
  rfl

/-- The attention that the program computes. -/
theorem gathered_eq (a : Args) (h : Fin 8) (n : Fin 10000) (d : Fin 32) :
    gathered (shares (scores a) (rows a.ei)) (pick (heads (linear a.x a.wv a.bv)) (cols a.ei)) (rows a.ei) (ix3 h n d)
      = a.attn n h d := by
  have hS : edgesOf (fun e => rows a.ei (ix1 e)) n = edgesOf a.row n := by
    simp only [rows_at]
    rfl
  rw [gathered_at]
  unfold Args.attn
  rw [← row_eq _ _ _ (rowMax (scores a) (rows a.ei) (ix2 n h))]
  · unfold rowShifted
    rw [← hS]
    refine Finset.sum_congr rfl fun e he => ?_
    rw [shares_at _ _ n h e he, pick_at, heads_at, linear_at, cols_at]
    simp only [scores_at]
    rfl
  · intro e he
    rw [← hS] at he
    exact le_of_eq_of_le (scores_at a h e).symm (le_rowMax (scores a) (rows a.ei) n h e he)
  · rw [← hS]
    rcases rowMax_attained (scores a) (rows a.ei) n h with hb | ⟨e, he, hm⟩
    · exact Or.inl hb
    · exact Or.inr ⟨e, he, (scores_at a h e).symm.trans hm⟩

/-- The reference program's result, at an element. -/
theorem result_at (a : Args) (n : Fin 10000) (j : Fin 256) : result a (ix2 n j) = a.out n j := by
  unfold result
  rw [linear_at]
  unfold proj Args.out
  simp only [joined_at, gathered_eq]

end Cert.Proof.Ref

end
-- ==== Proof.KernelValue.lean ====
/- The kernel program read at one element, stage by stage, down to the attention it computes. -/
module

public import proofs.«01_k».proof.Proof.KernelStages
public import proofs.«01_k».proof.Proof.RefValue

@[expose] public section

noncomputable section

namespace Cert.Proof.Ker

open Idealize.ShloMosaic Cert.KernelIdeal Cert.KernelIdeal.Gen
open Cert.Proof.Ref (Arr rows cols column wrapped nonzero rows_at cols_at column_at wrapped_at nonzero_at)

/-- The joint weights: columns of queries, of keys, of values. -/
theorem wAll_q (wq wk wv : Arr S256x256) (k j : Fin 256) :
    wAll wq wk wv (ix2 k ⟨j.val, by omega⟩) = wq (ix2 j k) := by
  pointwise [wAll]

/-- Its columns of keys. -/
theorem wAll_k (wq wk wv : Arr S256x256) (k j : Fin 256) :
    wAll wq wk wv (ix2 k ⟨256 + j.val, by omega⟩) = wk (ix2 j k) := by
  pointwise [wAll]

/-- Its columns of values. -/
theorem wAll_v (wq wk wv : Arr S256x256) (k j : Fin 256) :
    wAll wq wk wv (ix2 k ⟨512 + j.val, by omega⟩) = wv (ix2 j k) := by
  pointwise [wAll]
  rw [dif_neg (by omega), dif_neg (by omega)]
  simp only [show 512 + j.val - 256 - 256 = j.val by omega]

/-- The joint biases: those of queries, of keys, of values. -/
theorem bAll_q (bq bk bv : Arr S256) (j : Fin 256) : bAll bq bk bv (ix2 0 ⟨j.val, by omega⟩) = bq (ix1 j) := by
  pointwise [bAll]

/-- Its biases of keys. -/
theorem bAll_k (bq bk bv : Arr S256) (j : Fin 256) : bAll bq bk bv (ix2 0 ⟨256 + j.val, by omega⟩) = bk (ix1 j) := by
  pointwise [bAll]

/-- Its biases of values. -/
theorem bAll_v (bq bk bv : Arr S256) (j : Fin 256) : bAll bq bk bv (ix2 0 ⟨512 + j.val, by omega⟩) = bv (ix1 j) := by
  pointwise [bAll]
  rw [dif_neg (by omega), dif_neg (by omega)]
  simp only [show 512 + j.val - 256 - 256 = j.val by omega]

/-- The queries are the first 256 columns. -/
theorem queries_at (y : Arr S10000x768) (n : Fin 10000) (j : Fin 256) :
    queries y (ix2 n j) = y (ix2 n ⟨j.val, by omega⟩) := by
  pointwise [queries]

/-- The keys are the next 256 columns. -/
theorem keys_at (y : Arr S10000x768) (n : Fin 10000) (j : Fin 256) :
    keys y (ix2 n j) = y (ix2 n ⟨256 + j.val, by omega⟩) := by
  pointwise [keys]

/-- The values are the last 256 columns. -/
theorem values_at (y : Arr S10000x768) (n : Fin 10000) (j : Fin 256) :
    values y (ix2 n j) = y (ix2 n ⟨512 + j.val, by omega⟩) := by
  pointwise [values]

/-- An edge's row, split into heads, is the row of the node that its word reads. -/
theorem pick_at (y : Arr S10000x256) (r : IVec S160000 32) (e : Fin 160000) (h : Fin 8) (d : Fin 32) :
    pick y r (ix3 e h d) = y (ix2 (node (r (ix1 e))) (lane h d)) := by
  unfold pick
  pointwise
  refine (gather_matrix (by decide) _ y _ e (lane h d)).trans ?_
  rw [column_at, wrapped_at]
  rfl

/-- The exponential of an edge's score at a head. -/
theorem weights_at (q k : Arr S160000x8x32) (ab : Arr S160000x8) (e : Fin 160000) (h : Fin 8) :
    weights q k ab (ix2 e h) = Ideal.exp ((∑ d : Fin 32, q (ix3 e h d) * k (ix3 e h d)) + ab (ix2 e h)) := by
  pointwise [weights]

/-- The sum of the exponentials of a node's edges. -/
theorem denom_at (s : Arr S160000x8) (r : IVec S160000 32) (n : Fin 10000) (h : Fin 8) :
    denom s r (ix2 n h) = ∑ e ∈ edgesOf (fun e => r (ix1 e)) n, s (ix2 e h) := by
  refine (scatterAdd_matrix _ _ _ _ n h).trans ?_
  pointwise
  simp only [column_at]

/-- The sum of a node's weighted values; column `k` is feature `k % 32` of head `k / 32`. -/
theorem numer_at (s : Arr S160000x8) (v : Arr S160000x8x32) (r : IVec S160000 32) (n : Fin 10000) (k : Fin 256) :
    numer s v r (ix2 n k) = ∑ e ∈ edgesOf (fun e => r (ix1 e)) n,
      s (ix2 e ⟨k.val / 32, by omega⟩) * v (ix3 e ⟨k.val / 32, by omega⟩ ⟨k.val % 32, by omega⟩) := by
  refine (scatterAdd_matrix _ _ _ _ n k).trans ?_
  pointwise
  simp only [column_at]

/-- Each column is divided by the sum of its head. -/
theorem quotient_at (y : Arr S10000x256) (d : Arr S10000x8) (n : Fin 10000) (k : Fin 256) :
    quotient y d (ix2 n k) = Ideal.div (y (ix2 n k)) (d (ix2 n ⟨k.val / 32, by omega⟩)) := by
  pointwise [quotient]

/-- The last weights, transposed. -/
theorem wOut_at (wo : Arr S256x256) (k j : Fin 256) : wOut wo (ix2 k j) = wo (ix2 j k) := by
  pointwise [wOut]

/-- The last bias, as a row. -/
theorem bOut_at (bo : Arr S256) (j : Fin 256) : bOut bo (ix2 0 j) = bo (ix1 j) := by
  pointwise [bOut]

/-- The scale goes out of a linear layer whose weights and bias carry it. -/
theorem proj_scaled (x : Mat 10000 256) (w : Mat 256 256) (b : Row 256) (n : Fin 10000) (j : Fin 256) :
    (∑ k : Fin 256, x (ix2 n k) * (w (ix2 j k) * scale)) + b (ix1 j) * scale = proj x w b n j * scale := by
  have h0 : (0 : EReal) ≤ scale := EReal.coe_nonneg.2 (by positivity)
  have ht : scale ≠ ⊤ := EReal.coe_ne_top _
  unfold proj
  rw [EReal.right_distrib_of_nonneg_of_ne_top h0 ht, sum_mul_finite _ _ h0 ht]
  simp only [mul_assoc]

/-- The scaled queries of all nodes. -/
theorem joint_q (a : Args) (n : Fin 10000) (j : Fin 256) :
    queries (joint a) (ix2 n j) = proj a.x a.wq a.bq n j * scale := by
  rw [queries_at, ← proj_scaled, ← bAll_q a.bq a.bk a.bv j]
  have hf : factor ⟨j.val, by omega⟩ = scale := if_pos j.isLt
  simp only [← wAll_q a.wq a.wk a.wv, ← hf]
  rfl

/-- The keys of all nodes. -/
theorem joint_k (a : Args) (n : Fin 10000) (j : Fin 256) :
    keys (joint a) (ix2 n j) = proj a.x a.wk a.bk n j := by
  have hf : factor ⟨256 + j.val, by omega⟩ = 1 := if_neg (by show ¬ 256 + j.val < 256; omega)
  rw [keys_at]
  show (∑ k : Fin 256, a.x (ix2 n k) * (wAll a.wq a.wk a.wv (ix2 k ⟨256 + j.val, by omega⟩) * factor ⟨256 + j.val, by omega⟩))
    + bAll a.bq a.bk a.bv (ix2 0 ⟨256 + j.val, by omega⟩) * factor ⟨256 + j.val, by omega⟩ = _
  simp only [wAll_k, bAll_k, hf, mul_one]
  rfl

/-- The values of all nodes. -/
theorem joint_v (a : Args) (n : Fin 10000) (j : Fin 256) :
    values (joint a) (ix2 n j) = proj a.x a.wv a.bv n j := by
  have hf : factor ⟨512 + j.val, by omega⟩ = 1 := if_neg (by show ¬ 512 + j.val < 256; omega)
  rw [values_at]
  show (∑ k : Fin 256, a.x (ix2 n k) * (wAll a.wq a.wk a.wv (ix2 k ⟨512 + j.val, by omega⟩) * factor ⟨512 + j.val, by omega⟩))
    + bAll a.bq a.bk a.bv (ix2 0 ⟨512 + j.val, by omega⟩) * factor ⟨512 + j.val, by omega⟩ = _
  simp only [wAll_v, bAll_v, hf, mul_one]
  rfl

/-- The exponential of an edge's score. -/
theorem edgeWeights_at (a : Args) (e : Fin 160000) (h : Fin 8) :
    edgeWeights a (joint a) (ix2 e h) = Ideal.exp (a.logit h e) := by
  unfold edgeWeights
  rw [weights_at]
  simp only [pick_at, joint_q, joint_k, rows_at, cols_at]
  rfl

/-- The attention that the program computes. -/
theorem attended_at (a : Args) (n : Fin 10000) (k : Fin 256) :
    attended a (ix2 n k) = a.attn n ⟨k.val / 32, by omega⟩ ⟨k.val % 32, by omega⟩ := by
  unfold attended
  rw [quotient_at, nonzero_at, denom_at, numer_at]
  simp only [edgeWeights_at, pick_at, joint_v, rows_at, cols_at]
  rfl

/-- The kernel program's result, at an element. -/
theorem result_at (a : Args) (n : Fin 10000) (j : Fin 256) : result a (ix2 n j) = a.out n j := by
  show (∑ k : Fin 256, attended a (ix2 n k) * wOut a.wo (ix2 k j)) + bOut a.bo (ix2 0 j) = _
  simp only [attended_at, wOut_at, bOut_at]
  rfl

end Cert.Proof.Ker

end
-- ==== Proof.KernelRun.lean ====
/- The kernel program run over the extended reals: its result buffer ends at the contents that the program's boundaries
   fold to. The launch set-up is that of the generated frame theorem, with another buffer read at the end. -/
module

public import proofs.«01_k».proof.Proof.Gen.KernelIdeal.Frame

@[expose] public section

set_option maxRecDepth 16384

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

set_option backward.isDefEq.respectTransparency.types false in
/-- Every execution ends with the result buffer at the last boundary's contents. -/
theorem run_v60 : θ_run defs (onTc (τ := τ) (main (F := Idealize.ShloMosaic.Ideal))) ⟨m, fun _ => 0, ρ⟩ (fun r => ∀ c : Dev nD,
      r.2.mem ((c.tc : Thread nD τ).loc main_v60) = W6 m ρ c main_v60) :=
  Pipeline.θ_run_regions_kit_sems (pcfgs (F := Idealize.ShloMosaic.Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c => h c _ (mem_uc main_v60 (by decide)))

end Cert.Proof.Ker

end
-- ==== Proof.lean ====
/- The claims of the graph-attention kernel: both kernel programs and the reference terminate from any memory with their
   arguments unchanged and every semaphore counter at zero; the printed kernel is the ideal one with the constant `1/√32`
   named; and over the extended reals the ideal kernel computes what the reference computes, whatever the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import Idealize.ShloMosaic.Adequacy
public import Idealize.ShloMosaic.Init
public import Idealize.ShloMosaic.Lib.Claim
public import Idealize.ShloMosaic.Lib.Quiescent
public import proofs.«01_k».proof.Proof.KernelValue
public import proofs.«01_k».proof.Proof.KernelRun

@[expose] public section

noncomputable section

namespace Cert.Proof

open Idealize.ShloMosaic Idealize.ShloMosaic.TcCoe Idealize.SL.Sem

/-- The reference terminates, its arguments unchanged; it has no semaphores. -/
theorem reference_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- Both programs compute the attention of `Args.out`, so from the same arguments they end with the same result. -/
theorem results_eq (m : (ℓ : Loc Cert.KernelIdeal.nD Cert.KernelIdeal.τ Cert.KernelIdeal.sig) → Buf (Elt Idealize.ShloMosaic.Ideal) ℓ)
    (ρ : Dev Cert.KernelIdeal.nD → PrngReg)
    (m' : (ℓ : Loc Cert.ReferenceIdeal.nD Cert.ReferenceIdeal.τ Cert.ReferenceIdeal.sig) → Buf (Elt Idealize.ShloMosaic.Ideal) ℓ)
    (c : Dev Cert.KernelIdeal.nD) (h : Ref.argsOf m' c = Ker.argsOf m c) :
    Cert.ReferenceIdeal.Value.res_main_v103 m' c = Cert.KernelIdeal.Gen.W6 m ρ c Cert.KernelIdeal.main_v60 := by
  rw [Ref.res_eq, Ker.W6_eq, h]
  funext i
  rw [eq_ix2 i]
  exact (Ref.result_at _ _ _).trans (Ker.result_at _ _ _).symm

/-- The kernel and the reference agree over the extended reals. -/
theorem kernel_is_reference : Cert.algebraic_KernelIdeal_ReferenceIdeal
    (hKernelIdeal := Cert.KernelIdeal.Gen.facts) (hReferenceIdeal := Cert.ReferenceIdeal.Gen.facts) := by
  intro m ρ m' ρ' _ hargs
  refine ⟨fun c => Cert.KernelIdeal.Gen.W6 m ρ c Cert.KernelIdeal.main_v60, ?_, ?_⟩
  · exact (θ_run _ _ _).mono (fun r h c => ⟨h.1 c, h.2.1 c⟩)
      (θ_run_and (Ker.run_v60 m ρ) (Cert.KernelIdeal.Gen.frame m ρ))
  · refine (θ_run _ _ _).mono (fun r h c => ⟨(h c).1.trans (results_eq m ρ m' c ?_), (h c).2⟩) (Cert.ReferenceIdeal.Value.run m' ρ')
    obtain ⟨h0, h1, h2, h3, h4, h5, h6, h7, h8, h9, h10⟩ := hargs c
    unfold Ref.argsOf Ker.argsOf
    rw [h0, h1, h2, h3, h4, h5, h6, h7, h8, h9, h10]

/-- All five claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    reference_frame,
    IdealRules.named_const.statement Cert.KernelIdeal.κ "inv_sqrt_dk" .f32 0x3E3504F3#32 (((Real.sqrt 32)⁻¹ : ℝ) : EReal) rfl,
    kernel_is_reference⟩

end Cert.Proof

end
